-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_inputs [hPre_plain_inputs : Cert.Pre_plain_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_plain_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_inputs [hPre_plain_inputs : Cert.Pre_plain_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_plain_inputs [hKernelIdeal : Cert.KernelIdeal.Facts] [hPre_plain_inputs : Cert.Pre_plain_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_plain_inputs [hReferenceIdeal : Cert.ReferenceIdeal.Facts] [hPre_plain_inputs : Cert.Pre_plain_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "scale_times_cubic" .f32 0x3D122279#32 ((80338380498831 / 2251799813685248 : ℝ) : EReal)

def algebraic_KernelIdeal_ReferenceIdeal_pre_plain_inputs [hKernelIdeal : Cert.KernelIdeal.Facts] [hReferenceIdeal : Cert.ReferenceIdeal.Facts] [hPre_plain_inputs : Cert.Pre_plain_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_plain_inputs : Cert.Pre_plain_inputs.Facts),
    quiescent_Kernel (hKernel := hKernel)
    ∧ quiescent_KernelIdeal (hKernelIdeal := hKernelIdeal)
    ∧ quiescent_KernelIdeal_pre_plain_inputs (hKernelIdeal := hKernelIdeal) (hPre_plain_inputs := hPre_plain_inputs)
    ∧ quiescent_ReferenceIdeal (hReferenceIdeal := hReferenceIdeal)
    ∧ quiescent_ReferenceIdeal_pre_plain_inputs (hReferenceIdeal := hReferenceIdeal) (hPre_plain_inputs := hPre_plain_inputs)
    ∧ preserves_Kernel_KernelIdeal
    ∧ algebraic_KernelIdeal_ReferenceIdeal_pre_plain_inputs (hKernelIdeal := hKernelIdeal) (hReferenceIdeal := hReferenceIdeal) (hPre_plain_inputs := hPre_plain_inputs)
-- ==== Pre_plain_inputs.lean ====
abbrev S16x2048x1024 : Shape := ⟨3, ![16, 2048, 1024]⟩
abbrev S16x2048 : Shape := ⟨2, ![16, 2048]⟩
abbrev S1024x4096 : Shape := ⟨2, ![1024, 4096]⟩
abbrev S4096 : Shape := ⟨1, ![4096]⟩
abbrev S4096x5 : Shape := ⟨2, ![4096, 5]⟩
abbrev S5 : Shape := ⟨1, ![5]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S5 : S_.BroadcastsInDim S5 (![] : Fin 0 → Fin S5.rank)
  reducesTo_S5_S_d0 : S5.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16x2048x1024 .f32) (main_arg1 : FVec F S16x2048 .f32) (main_arg2 : FVec F S1024x4096 .f32) (main_arg3 : FVec F S4096 .f32) (main_arg4 : FVec F S4096x5 .f32) (main_arg5 : FVec F S5 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S1024x4096 .f32 := Host.absf main_arg2
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_cst_2 : FVec F S_ .f32 := constant S_ .f32 0x00000000#32
  let main_v9 : FVec F S4096 .f32 := broadcastInDim S4096 ![] bcast_S_S4096 main_cst_2
  let main_v10 : IVec S4096 1 := cmpf .oeq main_arg3 main_v9
  let main_c_3 : IVec S_ 1 := constantI S_ 1 1#1
  let main_v11 : IVec S_ 1 := (fun x v => Host.reduce IntOp.andi x v reducesTo_S4096_S_d0 h_S_) main_v10 main_c_3
  let main_v12 : IVec S_ 1 := andi main_v8 main_v11
  let main_cst_4 : FVec F S_ .f32 := constant S_ .f32 0x00000000#32
  let main_v13 : FVec F S5 .f32 := broadcastInDim S5 ![] bcast_S_S5 main_cst_4
  let main_v14 : IVec S5 1 := cmpf .oeq main_arg5 main_v13
  let main_c_5 : IVec S_ 1 := constantI S_ 1 1#1
  let main_v15 : IVec S_ 1 := (fun x v => Host.reduce IntOp.andi x v reducesTo_S5_S_d0 h_S_) main_v14 main_c_5
  fn_part1 (F := F) main_v12 main_v15
-- ==== Kernel.lean ====
abbrev S16x2048x1024 : Shape := ⟨3, ![16, 2048, 1024]⟩
abbrev S16x2048 : Shape := ⟨2, ![16, 2048]⟩
abbrev S1024x4096 : Shape := ⟨2, ![1024, 4096]⟩
abbrev S4096 : Shape := ⟨1, ![4096]⟩
abbrev S4096x5 : Shape := ⟨2, ![4096, 5]⟩
abbrev S5 : Shape := ⟨1, ![5]⟩
abbrev S32768x1024 : Shape := ⟨2, ![32768, 1024]⟩
abbrev S_ : Shape := ⟨0, ![]⟩
abbrev S32768x5 : Shape := ⟨2, ![32768, 5]⟩
abbrev S2048x1024 : Shape := ⟨2, ![2048, 1024]⟩
abbrev S2048x5 : Shape := ⟨2, ![2048, 5]⟩
abbrev S256x1024 : Shape := ⟨2, ![256, 1024]⟩
abbrev S256x4096 : Shape := ⟨2, ![256, 4096]⟩
abbrev S256x5 : Shape := ⟨2, ![256, 5]⟩

abbrev nBuf : Space → Nat
  | .hbm => 13
  | .vmem => 6
  | .smem => 0
  | _ => 0

abbrev bufTy : (tb : Table) → Fin (tcTables nBuf tb) → BufTy
  | .hbm, ⟨0, _⟩ => ⟨S16x2048x1024, .f32⟩
  | .hbm, ⟨1, _⟩ => ⟨S16x2048, .f32⟩
  | .hbm, ⟨2, _⟩ => ⟨S1024x4096, .f32⟩
  | .hbm, ⟨3, _⟩ => ⟨S4096, .f32⟩
  | .hbm, ⟨4, _⟩ => ⟨S4096x5, .f32⟩
  | .hbm, ⟨5, _⟩ => ⟨S5, .f32⟩
  | .hbm, ⟨6, _⟩ => ⟨S32768x1024, .f32⟩
  | .hbm, ⟨7, _⟩ => ⟨S1024x4096, .bf16⟩
  | .hbm, ⟨8, _⟩ => ⟨S_, .f32⟩
  | .hbm, ⟨9, _⟩ => ⟨S4096x5, .f32⟩
  | .hbm, ⟨10, _⟩ => ⟨S4096x5, .f32⟩
  | .hbm, ⟨11, _⟩ => ⟨S4096x5, .bf16⟩
  | .hbm, ⟨12, _⟩ => ⟨S32768x5, .f32⟩
  | .local _ .vmem, ⟨0, _⟩ => ⟨S2048x1024, .f32⟩
  | .local _ .vmem, ⟨1, _⟩ => ⟨S2048x1024, .f32⟩
  | .local _ .vmem, ⟨2, _⟩ => ⟨S1024x4096, .bf16⟩
  | .local _ .vmem, ⟨3, _⟩ => ⟨S4096x5, .bf16⟩
  | .local _ .vmem, ⟨4, _⟩ => ⟨S2048x5, .f32⟩
  | .local _ .vmem, ⟨5, _⟩ => ⟨S2048x5, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x5 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "scale_times_cubic" => some ((80338380498831 / 2251799813685248 : ℝ) : EReal)
  | _ => none
-- ==== ReferenceIdeal.lean ====
abbrev S16x2048x1024 : Shape := ⟨3, ![16, 2048, 1024]⟩
abbrev S16x2048 : Shape := ⟨2, ![16, 2048]⟩
abbrev S1024x4096 : Shape := ⟨2, ![1024, 4096]⟩
abbrev S4096 : Shape := ⟨1, ![4096]⟩
abbrev S4096x5 : Shape := ⟨2, ![4096, 5]⟩
abbrev S5 : Shape := ⟨1, ![5]⟩
abbrev S_ : Shape := ⟨0, ![]⟩
abbrev S16 : Shape := ⟨1, ![16]⟩
abbrev S32768x1024 : Shape := ⟨2, ![32768, 1024]⟩
abbrev S32768x4096 : Shape := ⟨2, ![32768, 4096]⟩
abbrev S1x4096 : Shape := ⟨2, ![1, 4096]⟩
abbrev S32768x5 : Shape := ⟨2, ![32768, 5]⟩
abbrev S1x5 : Shape := ⟨2, ![1, 5]⟩

abbrev nBuf : Space → Nat
  | .hbm => 43
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048, .f32⟩
  | .hbm, ⟨2, _⟩ => ⟨S1024x4096, .f32⟩
  | .hbm, ⟨3, _⟩ => ⟨S4096, .f32⟩
  | .hbm, ⟨4, _⟩ => ⟨S4096x5, .f32⟩
  | .hbm, ⟨5, _⟩ => ⟨S5, .f32⟩
  | .hbm, ⟨6, _⟩ => ⟨S_, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .i1⟩
  | .hbm, ⟨11, _⟩ => ⟨S16, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S32768x1024, .f32⟩
  | .hbm, ⟨17, _⟩ => ⟨S32768x4096, .f32⟩
  | .hbm, ⟨18, _⟩ => ⟨S1x4096, .f32⟩
  | .hbm, ⟨19, _⟩ => ⟨S32768x4096, .f32⟩
  | .hbm, ⟨20, _⟩ => ⟨S32768x4096, .f32⟩
  | .hbm, ⟨21, _⟩ => ⟨S32768x4096, .f32⟩
  | .hbm, ⟨22, _⟩ => ⟨S32768x4096, .f32⟩
  | .hbm, ⟨23, _⟩ => ⟨S_, .f32⟩
  | .hbm, ⟨24, _⟩ => ⟨S32768x4096, .f32⟩
  | .hbm, ⟨25, _⟩ => ⟨S32768x4096, .f32⟩
  | .hbm, ⟨26, _⟩ => ⟨S32768x4096, .f32⟩
  | .hbm, ⟨27, _⟩ => ⟨S_, .f32⟩
  | .hbm, ⟨28, _⟩ => ⟨S32768x4096, .f32⟩
  | .hbm, ⟨29, _⟩ => ⟨S32768x4096, .f32⟩
  | .hbm, ⟨30, _⟩ => ⟨S32768x4096, .f32⟩
  | .hbm, ⟨31, _⟩ => ⟨S_, .f32⟩
  | .hbm, ⟨32, _⟩ => ⟨S32768x4096, .f32⟩
  | .hbm, ⟨33, _⟩ => ⟨S32768x4096, .f32⟩
  | .hbm, ⟨34, _⟩ => ⟨S_, .f32⟩
  | .hbm, ⟨35, _⟩ => ⟨S32768x4096, .f32⟩
  | .hbm, ⟨36, _⟩ => ⟨S32768x4096, .f32⟩
  | .hbm, ⟨37, _⟩ => ⟨S32768x4096, .f32⟩
  | .hbm, ⟨38, _⟩ => ⟨S32768x5, .f32⟩
  | .hbm, ⟨39, _⟩ => ⟨S1x5, .f32⟩
  | .hbm, ⟨40, _⟩ => ⟨S32768x5, .f32⟩
  | .hbm, ⟨41, _⟩ => ⟨S32768x5, .f32⟩
  | .hbm, ⟨42, _⟩ => ⟨S32768x5, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Proof.Consts.lean ====
/-
  The constants that the programs and the precondition spell, as extended reals. Each lemma says what one 32-bit
  pattern denotes; no other module opens a pattern.
-/
module

public import Idealize.ShloMosaic.PureOps.Ideal
public import Idealize.ShloMosaic.PureOps.IdealRules
public import proofs.«01_k».proof.KernelIdeal

@[expose] public section

noncomputable section

namespace Cert.Consts

open Idealize.ShloMosaic

/-- The f32 number nearest `√(2/π)`: the factor in front of the gelu's bracket, in both programs. -/
def scale : ℝ := 6693141 / 8388608

/-- The f32 number nearest `0.044715`: the reference's factor of the cube. -/
def cubic : ℝ := 12003091 / 268435456

theorem ofBits_scale : Ideal.ofBits .f32 0x3F4C422A#32 = (scale : EReal) := by
  simp [Ideal.ofBits, Ideal.ieee, scale, -EReal.coe_mul]; norm_num

theorem ofBits_cubic : Ideal.ofBits .f32 0x3D372713#32 = (cubic : EReal) := by
  simp [Ideal.ofBits, Ideal.ieee, cubic, -EReal.coe_mul]; norm_num

theorem ofBits_half : Ideal.ofBits .f32 0x3F000000#32 = ((1 / 2 : ℝ) : EReal) := by
  simp [Ideal.ofBits, Ideal.ieee, -EReal.coe_mul]; norm_num

theorem ofBits_infinity : Ideal.ofBits .f32 0x7F800000#32 = ⊤ := by
  simp [Ideal.ofBits, Ideal.ieee]

/-- The constant that the kernel has multiplied out beforehand is named the exact product of the reference's two. -/
theorem named_product :
    Named.named (F := Ideal) Cert.KernelIdeal.κ "scale_times_cubic" (φ := .f32) 0x3D122279#32
      = ((scale * cubic : ℝ) : EReal) := by
  rw [show scale * cubic = (80338380498831 / 2251799813685248 : ℝ) by unfold scale cubic; norm_num]
  exact IdealRules.named_const.ideal_named_scalar _ _ _ _ rfl

end Cert.Consts

end
-- ==== Proof.Gelu.lean ====
/-
  The scalar mathematics: the kernel's gelu and the reference's, as functions of one extended real, and the row of
  results that each program computes from one row of `data`.

  The kernel leaves out the factor ½ of the gelu and has halved `W2` instead; it has also multiplied out the
  polynomial under the `tanh`, `a · (C·(a·a) + s)` with `C = s · c` for the reference's `s · (a + c · ((a·a)·a))`.
  For a real number `a` the two agree (`gelu_eq`). At `a = -∞` they do not: the kernel adds `-∞` to `-∞ · (-1)`,
  the reference multiplies `-∞` by zero.
-/
module

public import proofs.«01_k».proof.Proof.Consts

@[expose] public section

noncomputable section

namespace Cert.Gelu

open Idealize.ShloMosaic Cert.Consts

/-- The kernel's gelu without its factor ½, operation for operation. -/
def twice (a : EReal) : EReal :=
  a + a * Ideal.tanh (a * (((scale * cubic : ℝ) : EReal) * (a * a) + (scale : EReal)))

/-- The reference's gelu, operation for operation. -/
def gelu (a : EReal) : EReal :=
  a * (((1 / 2 : ℝ) : EReal) * (1 + Ideal.tanh ((scale : EReal) * (a + (cubic : EReal) * ((a * a) * a)))))

/-- At a real number both are real: the kernel's is `r + r·tanh …`. -/
theorem twice_coe (r : ℝ) :
    twice (r : EReal) = ((r + r * Real.tanh (r * (scale * cubic * (r * r) + scale)) : ℝ) : EReal) := by
  simp only [twice, ← EReal.coe_mul, ← EReal.coe_add, Ideal.tanh_coe]

/-- and the reference's is half of it. -/
theorem gelu_coe (r : ℝ) :
    gelu (r : EReal) = (((r + r * Real.tanh (r * (scale * cubic * (r * r) + scale))) * (1 / 2) : ℝ) : EReal) := by
  have h : scale * (r + cubic * (r * r * r)) = r * (scale * cubic * (r * r) + scale) := by ring
  simp only [gelu, ← EReal.coe_mul, ← EReal.coe_add, Ideal.tanh_coe, ← EReal.coe_one, h]
  exact congrArg _ (by ring)

/-- The kernel's gelu times the halved weight is the reference's gelu times the weight, whatever the weight. -/
theorem gelu_eq (r : ℝ) (w : EReal) : twice (r : EReal) * (((1 / 2 : ℝ) : EReal) * w) = gelu (r : EReal) * w := by
  rw [twice_coe, gelu_coe, EReal.coe_mul _ (1 / 2)]; exact (mul_assoc _ _ _).symm

/-- A sum of products of real numbers is a real number. -/
theorem sum_mul_real {n : Nat} (x w : Fin n → EReal) (hx : ∀ d, ∃ r : ℝ, x d = r) (hw : ∀ d, ∃ r : ℝ, w d = r) :
    ∃ r : ℝ, ∑ d, x d * w d = (r : EReal) := by
  choose rx hrx using hx
  choose rw' hrw using hw
  refine ⟨∑ d, rx d * rw' d, ?_⟩
  simp only [hrx, hrw, ← EReal.coe_mul]
  exact (map_sum (⟨⟨Real.toEReal, rfl⟩, EReal.coe_add⟩ : ℝ →+ EReal) _ _).symm

/-! ## One row of the result -/

/-- What the kernel computes in one row: `x` the row of `data`, `w1` the first weights, `v` one column of the second
    weights as the kernel holds it (already halved). -/
def kernelRow (x : Fin 1024 → EReal) (w1 : Fin 1024 → Fin 4096 → EReal) (v : Fin 4096 → EReal) : EReal :=
  ∑ k, twice (∑ d, x d * w1 d k) * v k

/-- What the reference computes in one row, its two biases zero: `v` one column of the second weights. -/
def referenceRow (x : Fin 1024 → EReal) (w1 : Fin 1024 → Fin 4096 → EReal) (v : Fin 4096 → EReal) : EReal :=
  ∑ k, gelu (∑ d, x d * w1 d k) * v k

/-- For a real row and real first weights the two are one, whatever the second weights are. -/
theorem rows_eq (x : Fin 1024 → EReal) (w1 : Fin 1024 → Fin 4096 → EReal) (v : Fin 4096 → EReal)
    (hx : ∀ d, ∃ r : ℝ, x d = r) (hw : ∀ d k, ∃ r : ℝ, w1 d k = r) :
    kernelRow x w1 (fun k => ((1 / 2 : ℝ) : EReal) * v k) = referenceRow x w1 v := by
  refine Finset.sum_congr rfl fun k _ => ?_
  obtain ⟨r, hr⟩ := sum_mul_real x (fun d => w1 d k) hx fun d => hw d k
  rw [hr]; exact gelu_eq r (v k)

end Cert.Gelu

end
-- ==== Proof.Block.lean ====
/-
  One grid point of the kernel: 2048 rows of `data` in eight slices of 256. Every slice stores one and the same function of
  its own rows and of the two weight blocks (`k0_pay3`; the others differ only in where the computation is cut into parts),
  and that function, at an index, is `Gelu.kernelRow`. So the block that a grid point stores is `kernelRow` row by row
  (`block_apply`).
-/
module

public import proofs.«01_k».proof.Proof.Gen.KernelIdeal.Frame
public import proofs.«01_k».proof.Proof.Gelu
public import Idealize.ShloMosaic.Lib.Pointwise
public import Idealize.ShloMosaic.Lib.Pipeline.ValueKit

@[expose] public section

set_option maxRecDepth 16384

noncomputable section

namespace Cert.KernelIdeal.Block

open Cert.KernelIdeal Cert.KernelIdeal.Gen Idealize.ShloMosaic Cert.Consts Cert.Gelu

/-- What a slice stores, at an index. -/
theorem slice_apply (x : Vec Ideal S256x1024 .f32) (w1 : Vec Ideal S1024x4096 .bf16) (w2 : Vec Ideal S4096x5 .bf16)
    (p : Fin 256) (j : Fin 5) :
    k0_pay3 x w1 w2 (ix2 p j)
      = kernelRow (fun d => x (ix2 p d)) (fun d k => w1 (ix2 d k)) (fun k => w2 (ix2 k j)) := by
  unfold kernelRow twice
  pointwise [k0_pay3, named_product, ofBits_scale]

/-- The same for a slice loaded from the block of 2048 rows, starting at row `off 0`: row `p 0` of the slice is row `i` of
    the block. The weights are loaded whole. -/
theorem slice_of_block (off : Fin 2 → Nat) (inb : ∀ a, off a + ![256, 1024] a ≤ S2048x1024.size a)
    (x : Vec Ideal S2048x1024 .f32) (w1 : Vec Ideal S1024x4096 .bf16) (w2 : Vec Ideal S4096x5 .bf16)
    (i : Fin 2048) (j : Fin 5) (p : S256x5.Idx) (hi : (i : Nat) = off 0 + p 0) (hj : (j : Nat) = p 1) (h0 : off 1 = 0) :
    k0_pay3 (View.ld x (Rect.unit off ![256, 1024] inb)) (View.ld w1 r0_1) (View.ld w2 r0_3) p
      = kernelRow (fun d => x (ix2 i d)) (fun d k => w1 (ix2 d k)) (fun k => w2 (ix2 k j)) := by
  obtain ⟨q, l, rfl⟩ : ∃ (q : Fin 256) (l : Fin 5), p = ix2 q l := ⟨p 0, p 1, eq_ix2 p⟩
  obtain rfl : j = l := Fin.ext hj
  have hx : ∀ d : Fin 1024, View.ld x (Rect.unit off ![256, 1024] inb) (ix2 q d) = x (ix2 i d) := fun d =>
    View.ld_unit_apply_of x off _ inb _ _ fun a => by
      match a with
      | ⟨0, _⟩ => exact hi
      | ⟨1, _⟩ => show (d : Nat) = off 1 + d; omega
  have h1 : View.ld w1 r0_1 = w1 := View.ld_unit_zero (by decide) _ _
  have h2 : View.ld w2 r0_3 = w2 := View.ld_unit_zero (by decide) _ _
  rw [slice_apply, h1, h2]
  simp only [hx]

/-- The block that a grid point stores, at an index: row `i` of the block of `data`, column `j` of the second weights. -/
theorem block_apply (x : Vec Ideal S2048x1024 .f32) (w1 : Vec Ideal S1024x4096 .bf16) (w2 : Vec Ideal S4096x5 .bf16)
    (i : Fin 2048) (j : Fin 5) :
    out0_3 x w1 w2 (ix2 i j)
      = kernelRow (fun d => x (ix2 i d)) (fun d k => w1 (ix2 d k)) (fun k => w2 (ix2 k j)) := by
  canon_tiles p h using Gen.cover0_3 ..
  all_goals exact slice_of_block _ _ x w1 w2 i j p (by first | exact h0 | exact h0.trans (Nat.zero_add _).symm) h1 rfl

end Cert.KernelIdeal.Block

end
-- ==== Proof.Array.lean ====
/-
  The kernel's result array. The host reshapes `data` to 32768 rows, keeps `W1` and halves `W2`; grid point `t` of 16
  reads rows `2048·t …` and both weights whole, and writes the same rows of the result (`Block.block_apply`). The 16 blocks
  tile the result, so the whole array is `Gelu.kernelRow` of the reshaped `data`, `W1` and the halved `W2`, row by row.
-/
module

public import proofs.«01_k».proof.Proof.Gen.KernelIdeal.Value
public import proofs.«01_k».proof.Proof.Block

@[expose] public section

set_option maxRecDepth 16384

noncomputable section

namespace Cert.KernelIdeal.Array

open Cert.KernelIdeal Cert.KernelIdeal.Gen Idealize.ShloMosaic Idealize.ShloMosaic.TcCoe Cert.Consts Cert.Gelu
open Idealize.SL.Sem

variable (m : (ℓ : Loc nD τ sig) → Buf (Elt Ideal) ℓ) (c : Dev nD)

/-- `data` as 32768 rows. -/
def rows : FVec Ideal S32768x1024 .f32 :=
  shapeCast S32768x1024 (m ((c : Thread nD τ).loc main_arg0)) shapeCasts_S16x2048x1024_S32768x1024

/-! ## What the host hands to the kernel -/

theorem entry_rows : V m c main_v0 = rows m c := by
  unfold V rows; after_results_simp; rfl

theorem entry_w1 (i : S1024x4096.Idx) : V m c main_v1 i = m ((c : Thread nD τ).loc main_arg2) i := by
  have h : V m c main_v1 = (truncf .bf16 (m ((c : Thread nD τ).loc main_arg2)) bitsLt_bf16_f32 : FVec Ideal S1024x4096 .bf16) := by
    unfold V; after_results_simp
  rw [h]; rfl

theorem entry_w2 (i : S4096x5.Idx) :
    V m c main_v4 i = (((1 / 2 : ℝ) : EReal) * m ((c : Thread nD τ).loc main_arg4) i : EReal) := by
  have h : V m c main_v4 = (truncf .bf16 (mulf (broadcastInDim S4096x5 ![] bcast_S_S4096x5 (constant S_ .f32 0x3F000000#32))
      (m ((c : Thread nD τ).loc main_arg4))) bitsLt_bf16_f32 : FVec Ideal S4096x5 .bf16) := by
    unfold V; after_results_simp
  rw [h, ← ofBits_half]; rfl

/-! ## The blocks that a grid point reads -/

/-- Where each window stands at a grid point: the rows move by 2048, the weights do not move. -/
theorem idx : ∀ t : Fin cfg0.N, win0_0.index t = ![t.val, 0] ∧ win0_1.index t = ![0, 0] ∧ win0_2.index t = ![0, 0]
    ∧ win0_3.index t = ![t.val, 0] := by
  decide +kernel

theorem read_rows (t : Fin cfg0.N) (i : Fin 2048) (d : Fin 1024) (I : Fin 32768) (hI : (I : Nat) = t.val * 2048 + i) :
    iblk m c 0 t (ix2 i d) = rows m c (ix2 I d) := by
  rw [← entry_rows]
  blk_ext [iblk, (idx t).1, hI]

theorem read_w1 (t : Fin cfg0.N) (d : Fin 1024) (k : Fin 4096) :
    iblk m c 1 t (ix2 d k) = m ((c : Thread nD τ).loc main_arg2) (ix2 d k) := by
  refine Eq.trans ?_ (entry_w1 m c _)
  blk_ext [iblk, (idx t).2.1]

theorem read_w2 (t : Fin cfg0.N) (k : Fin 4096) (j : Fin 5) :
    iblk m c 2 t (ix2 k j) = (((1 / 2 : ℝ) : EReal) * m ((c : Thread nD τ).loc main_arg4) (ix2 k j) : EReal) := by
  refine Eq.trans ?_ (entry_w2 m c _)
  blk_ext [iblk, (idx t).2.2.1]

/-! ## The result array -/

/-- The whole result, row by row. -/
def result : FVec Ideal S32768x5 .f32 := fun i =>
  kernelRow (fun d => rows m c (ix2 (i 0) d)) (fun d k => m ((c : Thread nD τ).loc main_arg2) (ix2 d k))
    (fun k => ((1 / 2 : ℝ) : EReal) * m ((c : Thread nD τ).loc main_arg4) (ix2 k (i 1)))

theorem array_eq : (dats m 0 c).arrAt 3 cfg0.N = result m c := by
  refine (dats m 0 c).arrAt_eq_of_covers 3 _ (by decide +kernel) fun t hf y => ?_
  obtain ⟨i, j, rfl⟩ : ∃ (i : Fin 2048) (j : Fin 5), y = ix2 i j := ⟨y 0, y 1, eq_ix2 y⟩
  have ht : t.val < 16 := lt_of_lt_of_eq t.isLt N_0
  have e : ((cfg0.win 3).blk t).view.emb (ix2 i j) = ix2 (⟨t.val * 2048 + i, by omega⟩ : Fin 32768) j := by
    blk_ext [(idx t).2.2.2]
  rw [e]
  blk_simp
  rw [after0_3]
  refine (Block.block_apply _ _ _ i j).trans ?_
  simp only [read_w1, read_w2, read_rows m c t i _ ⟨t.val * 2048 + i, by omega⟩ rfl]
  rfl

/-- The kernel's run: the result array as above, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (array_eq m c), (h c).2⟩) (Value.run_blocks m ρ)

end Cert.KernelIdeal.Array

end
-- ==== Proof.RefValue.lean ====
/-
  The reference's result at an index, when both biases are zero: `Gelu.referenceRow` of the same row of `data`. (The
  reference's last step chooses between two equal arrays, so what it tests of `inits` does not matter.)
-/
module

public import proofs.«01_k».proof.Proof.Gen.ReferenceIdeal.Run
public import proofs.«01_k».proof.Proof.Gelu
public import Idealize.ShloMosaic.Lib.Pointwise
public import Idealize.ShloMosaic.Lib.Tactic.CleanTypes

@[expose] public section

set_option maxRecDepth 16384

noncomputable section

namespace Cert.ReferenceIdeal.RefValue

open Cert.ReferenceIdeal Cert.ReferenceIdeal.Gen Idealize.ShloMosaic Idealize.ShloMosaic.TcCoe Cert.Consts Cert.Gelu

variable (data : FVec Ideal S16x2048x1024 .f32) (inits : FVec Ideal S16x2048 .f32) (w1 : FVec Ideal S1024x4096 .f32)
  (b1 : FVec Ideal S4096 .f32) (w2 : FVec Ideal S4096x5 .f32) (b2 : FVec Ideal S5 .f32)

/-- `data` as 32768 rows. -/
def rows : FVec Ideal S32768x1024 .f32 := shapeCast S32768x1024 data shapeCasts_S16x2048x1024_S32768x1024

/-- The pre-activations, `x @ W1 + b1`. -/
def hidden : FVec Ideal S32768x4096 .f32 :=
  addf (Host.dotGeneral dot_S32768x1024_S1024x4096_S32768x4096_1_0_0_1_n_n none (rows data) w1)
    (broadcastInDim S32768x4096 ![0, 1] bcast_S1x4096_S32768x4096_0_1 (broadcastInDim S1x4096 ![1] bcast_S4096_S1x4096_1 b1))

/-- The gelu of an array, as the reference spells it. -/
def activated (a : FVec Ideal S32768x4096 .f32) : FVec Ideal S32768x4096 .f32 :=
  mulf a (mulf (broadcastInDim S32768x4096 ![] bcast_S_S32768x4096 (constant S_ .f32 0x3F000000#32))
    (addf (broadcastInDim S32768x4096 ![] bcast_S_S32768x4096 (constant S_ .f32 0x3F800000#32))
      (Host.tanh (mulf (broadcastInDim S32768x4096 ![] bcast_S_S32768x4096 (constant S_ .f32 0x3F4C422A#32))
        (addf a (mulf (broadcastInDim S32768x4096 ![] bcast_S_S32768x4096 (constant S_ .f32 0x3D372713#32))
          (mulf (mulf a a) a)))))))

/-- The predictions, `h @ W2 + b2`. -/
def predicted (h : FVec Ideal S32768x4096 .f32) : FVec Ideal S32768x5 .f32 :=
  addf (Host.dotGeneral dot_S32768x4096_S4096x5_S32768x5_1_0_0_1_n_n none h w2)
    (broadcastInDim S32768x5 ![0, 1] bcast_S1x5_S32768x5_0_1 (broadcastInDim S1x5 ![1] bcast_S5_S1x5_1 b2))

theorem hidden_apply (hb1 : ∀ k, b1 k = (0 : EReal)) (i : Fin 32768) (k : Fin 4096) :
    hidden data w1 b1 (ix2 i k) = (∑ d : Fin 1024, rows data (ix2 i d) * w1 (ix2 d k) : EReal) := by
  pointwise [hidden]
  rw [hb1, add_zero]

theorem activated_apply (a : FVec Ideal S32768x4096 .f32) (j : S32768x4096.Idx) : activated a j = gelu (a j) := by
  unfold gelu
  pointwise [activated, ofBits_scale, ofBits_cubic, ofBits_half]

theorem predicted_apply (hb2 : ∀ k, b2 k = (0 : EReal)) (h : FVec Ideal S32768x4096 .f32) (i : Fin 32768) (j : Fin 5) :
    predicted w2 b2 h (ix2 i j) = (∑ k : Fin 4096, h (ix2 i k) * w2 (ix2 k j) : EReal) := by
  pointwise [predicted]
  rw [hb2, add_zero]

/-- A choice between equal arrays. -/
theorem select_self {s : Shape} (p : IVec s 1) (x : FVec Ideal s .f32) : select p x x = x := by
  funext i; exact ite_self _

variable (m : (ℓ : Loc nD τ sig) → Buf (Elt Ideal) ℓ) (c : Dev nD)

/-- The run's result is the composition of the three stages above. -/
theorem res_eq : Value.res_out0 m c
    = predicted (m ((c : Thread nD τ).loc main_arg4)) (m ((c : Thread nD τ).loc main_arg5))
        (activated (hidden (m ((c : Thread nD τ).loc main_arg0)) (m ((c : Thread nD τ).loc main_arg2)) (m ((c : Thread nD τ).loc main_arg3)))) := by
  unfold Value.res_out0 Value.res_main_v28
  exact select_self _ _

/-- The reference's result at row `i`, column `j`. -/
theorem res_apply (hb1 : ∀ k, m ((c : Thread nD τ).loc main_arg3) k = (0 : EReal))
    (hb2 : ∀ k, m ((c : Thread nD τ).loc main_arg5) k = (0 : EReal)) (i : Fin 32768) (j : Fin 5) :
    Value.res_out0 m c (ix2 i j)
      = referenceRow (fun d => rows (m ((c : Thread nD τ).loc main_arg0)) (ix2 i d))
          (fun d k => m ((c : Thread nD τ).loc main_arg2) (ix2 d k)) (fun k => m ((c : Thread nD τ).loc main_arg4) (ix2 k j)) := by
  rw [res_eq, predicted_apply _ _ hb2]
  simp only [activated_apply, hidden_apply _ _ _ hb1]
  rfl

end Cert.ReferenceIdeal.RefValue

end
-- ==== Proof.Pre.lean ====
/-
  What the precondition `plain_inputs` says of the arguments, element by element: `data` and `W1` hold real numbers, and
  both biases are zero.
-/
module

public import proofs.«01_k».proof.Proof.Gen.Pre_plain_inputs
public import proofs.«01_k».proof.Proof.Consts
public import Idealize.ShloMosaic.Lib.Pointwise
public import Idealize.ShloMosaic.Lib.ReduceAll

@[expose] public section

set_option maxRecDepth 16384

noncomputable section

namespace Cert.Pre_plain_inputs.Read

open Cert.Pre_plain_inputs Cert.Pre_plain_inputs.Gen Idealize.ShloMosaic Cert.Consts

/-- An extended real whose absolute value is below `+∞` is a real number. -/
theorem real_of_abs_lt (x : EReal) (h : max x (-x) < ⊤) : ∃ r : ℝ, x = r := by
  induction x using EReal.rec with
  | bot => simp at h
  | top => simp at h
  | coe r => exact ⟨r, rfl⟩

/-- One test `|x| < +∞`, read. -/
theorem real_of_test {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) :
    ∃ r : ℝ, x i = (r : EReal) := by
  refine real_of_abs_lt (x i) ?_
  have e : Ideal.cmp .olt (max (x i) (-(x i)) : EReal) (Ideal.ofBits .f32 0x7F800000#32) = 1 := h
  rw [ofBits_infinity, Ideal.cmp_olt_eq_one] at e
  exact e

/-- One test `x = 0`, read. -/
theorem zero_of_test {s : Shape} (x : FVec Ideal s .f32) (hb : S_.BroadcastsInDim s (![] : Fin 0 → Fin s.rank)) (i : s.Idx)
    (h : cmpf .oeq x (broadcastInDim s ![] hb (constant S_ .f32 0x00000000#32)) i = 1#1) : x i = (0 : EReal) := by
  have e : Ideal.cmp .oeq (x i) (Ideal.ofBits .f32 0x00000000#32) = 1 := h
  rw [Ideal.ofBits_zero_f32, Ideal.cmp_oeq_eq_one] at e
  exact e

variable (data : FVec Ideal S16x2048x1024 .f32) (inits : FVec Ideal S16x2048 .f32) (w1 : FVec Ideal S1024x4096 .f32)
  (b1 : FVec Ideal S4096 .f32) (w2 : FVec Ideal S4096x5 .f32) (b2 : FVec Ideal S5 .f32)

/-- The precondition, read. -/
theorem plain (h : fn data inits w1 b1 w2 b2 (fun a => a.elim0) = 1#1) :
    (∀ i, ∃ r : ℝ, data i = (r : EReal)) ∧ (∀ i, ∃ r : ℝ, w1 i = (r : EReal)) ∧ (∀ i, b1 i = (0 : EReal))
      ∧ ∀ i, b2 i = (0 : EReal) := by
  haveI : Subsingleton S_.Idx := ⟨fun a b => funext fun x => x.elim0⟩
  unfold fn fn_part1 at h
  obtain ⟨h, h4⟩ := IntOp.andi_eq_one.1 h
  obtain ⟨h, h3⟩ := IntOp.andi_eq_one.1 h
  obtain ⟨h1, h2⟩ := IntOp.andi_eq_one.1 h
  exact ⟨fun i => real_of_test _ _ i (Host.reduce_andi_all _ _ _ _ _ h1 i),
    fun i => real_of_test _ _ i (Host.reduce_andi_all _ _ _ _ _ h2 i),
    fun i => zero_of_test _ _ i (Host.reduce_andi_all _ _ _ _ _ h3 i),
    fun i => zero_of_test _ _ i (Host.reduce_andi_all _ _ _ _ _ h4 i)⟩

end Cert.Pre_plain_inputs.Read

end
-- ==== Proof.lean ====
/-
  The certificate: the kernel's result is the reference's.

  Proof/Consts.lean    what the spelt constants denote
  Proof/Gelu.lean      the two gelus, scalar, and one row of the result
  Proof/Block.lean     what one grid point of the kernel stores
  Proof/Array.lean     the kernel's result array and its run
  Proof/RefValue.lean  the reference's result at an index
  Proof/Pre.lean       what the precondition says, element by element

  Here the seven parts of `Cert.Claim` are put together: the frames of the kernel, of its idealization and of the
  reference (the latter two also under the precondition, which they do not need), the one renamed constant, and the
  equality of the two results.
-/
module

public import proofs.«01_k».proof.Defs
public import proofs.«01_k».proof.Proof.Gen.Kernel
public import proofs.«01_k».proof.Proof.Gen.Kernel.Frame
public import proofs.«01_k».proof.Proof.Gen.ReferenceIdeal
public import proofs.«01_k».proof.Proof.Array
public import proofs.«01_k».proof.Proof.RefValue
public import proofs.«01_k».proof.Proof.Pre
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-! ## The frames -/

theorem kernel_frame : Cert.quiescent_Kernel (hKernel := Cert.Kernel.Gen.facts) :=
  fun m ρ _ => Cert.Kernel.Gen.frame m ρ

theorem ideal_frame : Cert.quiescent_KernelIdeal (hKernelIdeal := Cert.KernelIdeal.Gen.facts) :=
  fun m ρ _ => Cert.KernelIdeal.Gen.frame m ρ

theorem ideal_frame_pre : Cert.quiescent_KernelIdeal_pre_plain_inputs (hKernelIdeal := Cert.KernelIdeal.Gen.facts)
    (hPre_plain_inputs := Cert.Pre_plain_inputs.Gen.facts) :=
  fun m ρ _ => Cert.KernelIdeal.Gen.frame m ρ

/-- The reference changes no argument, and has no semaphore. -/
theorem reference_frame : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem reference_frame_pre : Cert.quiescent_ReferenceIdeal_pre_plain_inputs (hReferenceIdeal := Cert.ReferenceIdeal.Gen.facts)
    (hPre_plain_inputs := Cert.Pre_plain_inputs.Gen.facts) :=
  fun m ρ _ => reference_frame m ρ trivial

/-! ## The renamed constant -/

theorem preserves : Cert.preserves_Kernel_KernelIdeal :=
  IdealRules.named_const.statement Cert.KernelIdeal.κ "scale_times_cubic" .f32 0x3D122279#32
    ((80338380498831 / 2251799813685248 : ℝ) : EReal) rfl

/-! ## The values -/

/-- On arguments that agree and satisfy the precondition, the reference's result is the kernel's array: at each index
    both are one row of the two-layer network, and the rows are equal by `Gelu.rows_eq`. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_plain_inputs (hPre_plain_inputs := Cert.Pre_plain_inputs.Gen.facts) m)
    (c : Dev Cert.KernelIdeal.nD)
    (e0 : m' ((c : Thread Cert.ReferenceIdeal.nD Cert.ReferenceIdeal.τ).loc Cert.ReferenceIdeal.main_arg0)
      = m ((c : Thread Cert.KernelIdeal.nD Cert.KernelIdeal.τ).loc Cert.KernelIdeal.main_arg0))
    (e2 : m' ((c : Thread Cert.ReferenceIdeal.nD Cert.ReferenceIdeal.τ).loc Cert.ReferenceIdeal.main_arg2)
      = m ((c : Thread Cert.KernelIdeal.nD Cert.KernelIdeal.τ).loc Cert.KernelIdeal.main_arg2))
    (e3 : m' ((c : Thread Cert.ReferenceIdeal.nD Cert.ReferenceIdeal.τ).loc Cert.ReferenceIdeal.main_arg3)
      = m ((c : Thread Cert.KernelIdeal.nD Cert.KernelIdeal.τ).loc Cert.KernelIdeal.main_arg3))
    (e4 : m' ((c : Thread Cert.ReferenceIdeal.nD Cert.ReferenceIdeal.τ).loc Cert.ReferenceIdeal.main_arg4)
      = m ((c : Thread Cert.KernelIdeal.nD Cert.KernelIdeal.τ).loc Cert.KernelIdeal.main_arg4))
    (e5 : m' ((c : Thread Cert.ReferenceIdeal.nD Cert.ReferenceIdeal.τ).loc Cert.ReferenceIdeal.main_arg5)
      = m ((c : Thread Cert.KernelIdeal.nD Cert.KernelIdeal.τ).loc Cert.KernelIdeal.main_arg5)) :
    Cert.ReferenceIdeal.Value.res_main_v28 m' c = Cert.KernelIdeal.Array.result m c := by
  obtain ⟨hdata, hw1, hb1, hb2⟩ := Cert.Pre_plain_inputs.Read.plain _ _ _ _ _ _ (congrFun (hpre c) _)
  refine funext fun (y : Cert.ReferenceIdeal.S32768x5.Idx) => ?_
  obtain ⟨i, j, rfl⟩ : ∃ (i : Fin 32768) (j : Fin 5), y = ix2 i j := ⟨y 0, y 1, eq_ix2 y⟩
  refine (Cert.ReferenceIdeal.RefValue.res_apply m' c (fun k => by rw [e3]; exact hb1 k) (fun k => by rw [e5]; exact hb2 k) i j).trans ?_
  rw [e0, e2, e4]
  exact (Cert.Gelu.rows_eq _ _ _ (fun d => hdata _) (fun d k => hw1 _)).symm

theorem algebraic : Cert.algebraic_KernelIdeal_ReferenceIdeal_pre_plain_inputs (hKernelIdeal := Cert.KernelIdeal.Gen.facts)
    (hReferenceIdeal := Cert.ReferenceIdeal.Gen.facts) (hPre_plain_inputs := Cert.Pre_plain_inputs.Gen.facts) := by
  intro m ρ m' ρ' hpre hagree
  refine ⟨Cert.KernelIdeal.Array.result m, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  obtain ⟨e0, _, e2, e3, e4, e5⟩ := hagree c
  exact results_eq m m' hpre c e0 e2 e3 e4 e5

theorem claim : Cert.Claim :=
  ⟨Cert.Kernel.Gen.facts, Cert.KernelIdeal.Gen.facts, Cert.ReferenceIdeal.Gen.facts, Cert.Pre_plain_inputs.Gen.facts,
    kernel_frame, ideal_frame, ideal_frame_pre, reference_frame, reference_frame_pre, preserves, algebraic⟩

end Cert.Proof

end
